-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_patch_masked [hPre_no_patch_masked : Cert.Pre_no_patch_masked.Facts] (m : (ℓ : Loc Cert.KernelIdeal.nD Cert.KernelIdeal.τ Cert.KernelIdeal.sig) → Buf (Elt Ideal) ℓ) : Prop :=
  ∀ c : Dev Cert.KernelIdeal.nD,
    (Cert.Pre_no_patch_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_patch_masked [hPre_no_patch_masked : Cert.Pre_no_patch_masked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_patch_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_no_patch_masked [hKernelIdeal : Cert.KernelIdeal.Facts] [hPre_no_patch_masked : Cert.Pre_no_patch_masked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_patch_masked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_no_patch_masked [hReferenceIdeal : Cert.ReferenceIdeal.Facts] [hPre_no_patch_masked : Cert.Pre_no_patch_masked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_patch_masked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_no_patch_masked [hKernelIdeal : Cert.KernelIdeal.Facts] [hReferenceIdeal : Cert.ReferenceIdeal.Facts] [hPre_no_patch_masked : Cert.Pre_no_patch_masked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_patch_masked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_no_patch_masked : Cert.Pre_no_patch_masked.Facts),
    quiescent_Kernel (hKernel := hKernel)
    ∧ quiescent_KernelIdeal (hKernelIdeal := hKernelIdeal)
    ∧ quiescent_KernelIdeal_pre_no_patch_masked (hKernelIdeal := hKernelIdeal) (hPre_no_patch_masked := hPre_no_patch_masked)
    ∧ quiescent_ReferenceIdeal (hReferenceIdeal := hReferenceIdeal)
    ∧ quiescent_ReferenceIdeal_pre_no_patch_masked (hReferenceIdeal := hReferenceIdeal) (hPre_no_patch_masked := hPre_no_patch_masked)
    ∧ preserves_Kernel_KernelIdeal
    ∧ algebraic_KernelIdeal_ReferenceIdeal_pre_no_patch_masked (hKernelIdeal := hKernelIdeal) (hReferenceIdeal := hReferenceIdeal) (hPre_no_patch_masked := hPre_no_patch_masked)
-- ==== Pre_no_patch_masked.lean ====
abbrev S256x1024x128 : Shape := ⟨3, ![256, 1024, 128]⟩
abbrev S256x1024 : Shape := ⟨2, ![256, 1024]⟩
abbrev S128x128 : Shape := ⟨2, ![128, 128]⟩
abbrev S128 : Shape := ⟨1, ![128]⟩
abbrev S1x1x128 : Shape := ⟨3, ![1, 1, 128]⟩
abbrev S1x1024x128 : Shape := ⟨3, ![1, 1024, 128]⟩
abbrev S_ : Shape := ⟨0, ![]⟩

class Facts : Prop where
  reducesTo_S256x1024_S_d0_1 : S256x1024.ReducesTo [0, 1] S_
  h_S_ : 0 < S_.numel

variable [Facts]

def fn {F : FTy → Type} [FloatOps F] (main_arg0 : FVec F S256x1024x128 .f32) (main_arg1 : IVec S256x1024 1) (main_arg2 : FVec F S128x128 .f32) (main_arg3 : FVec F S128 .f32) (main_arg4 : FVec F S1x1x128 .f32) (main_arg5 : FVec F S1x1024x128 .f32) : IVec S_ 1 :=
  let main_v0 : IVec S256x1024 1 := noti main_arg1
  let main_c : IVec S_ 1 := constantI S_ 1 1#1
  let main_v1 : IVec S_ 1 := (fun x v => Host.reduce IntOp.andi x v reducesTo_S256x1024_S_d0_1 h_S_) main_v0 main_c
  main_v1
-- ==== Kernel.lean ====
abbrev S256x1024x128 : Shape := ⟨3, ![256, 1024, 128]⟩
abbrev S256x1024 : Shape := ⟨2, ![256, 1024]⟩
abbrev S128x128 : Shape := ⟨2, ![128, 128]⟩
abbrev S128 : Shape := ⟨1, ![128]⟩
abbrev S1x1x128 : Shape := ⟨3, ![1, 1, 128]⟩
abbrev S1x1024x128 : Shape := ⟨3, ![1, 1024, 128]⟩
abbrev S262144x128 : Shape := ⟨2, ![262144, 128]⟩
abbrev S1024x128 : Shape := ⟨2, ![1024, 128]⟩
abbrev S1x128 : Shape := ⟨2, ![1, 128]⟩

abbrev nBuf : Space → Nat
  | .hbm => 13
  | .vmem => 6
  | .smem => 0
  | _ => 0

abbrev bufTy : (tb : Table) → Fin (tcTables nBuf tb) → BufTy
  | .hbm, ⟨0, _⟩ => ⟨S256x1024x128, .f32⟩
  | .hbm, ⟨1, _⟩ => ⟨S256x1024, .i1⟩
  | .hbm, ⟨2, _⟩ => ⟨S128x128, .f32⟩
  | .hbm, ⟨3, _⟩ => ⟨S128, .f32⟩
  | .hbm, ⟨4, _⟩ => ⟨S1x1x128, .f32⟩
  | .hbm, ⟨5, _⟩ => ⟨S1x1024x128, .f32⟩
  | .hbm, ⟨6, _⟩ => ⟨S262144x128, .f32⟩
  | .hbm, ⟨7, _⟩ => ⟨S1024x128, .f32⟩
  | .hbm, ⟨8, _⟩ => ⟨S1x128, .f32⟩
  | .hbm, ⟨9, _⟩ => ⟨S1024x128, .f32⟩
  | .hbm, ⟨10, _⟩ => ⟨S1024x128, .f32⟩
  | .hbm, ⟨11, _⟩ => ⟨S262144x128, .f32⟩
  | .hbm, ⟨12, _⟩ => ⟨S256x1024x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S256x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x1024x128 : Shape := ⟨3, ![256, 1024, 128]⟩
abbrev S256x1024 : Shape := ⟨2, ![256, 1024]⟩
abbrev S128x128 : Shape := ⟨2, ![128, 128]⟩
abbrev S128 : Shape := ⟨1, ![128]⟩
abbrev S1x1x128 : Shape := ⟨3, ![1, 1, 128]⟩
abbrev S1x1024x128 : Shape := ⟨3, ![1, 1024, 128]⟩
abbrev S262144x128 : Shape := ⟨2, ![262144, 128]⟩
abbrev S262144 : Shape := ⟨1, ![262144]⟩
abbrev S_ : Shape := ⟨0, ![]⟩
abbrev S262144x1 : Shape := ⟨2, ![262144, 1]⟩
abbrev S1 : Shape := ⟨1, ![1]⟩
abbrev S262144x2 : Shape := ⟨2, ![262144, 2]⟩

abbrev nBuf : Space → Nat
  | .hbm => 149
  | .vmem => 0
  | .smem => 0
  | _ => 0

abbrev hbmTy0_0 (i : Nat) : BufTy := match i % 128 with
  | 0 => ⟨S256x1024x128, .f32⟩
  | 1 => ⟨S256x1024, .i1⟩
  | 2 => ⟨S128x128, .f32⟩
  | 3 => ⟨S128, .f32⟩
  | 4 => ⟨S1x1x128, .f32⟩
  | 5 => ⟨S1x1024x128, .f32⟩
  | 6 => ⟨S256x1024x128, .f32⟩
  | 7 => ⟨S1x1x128, .f32⟩
  | 8 => ⟨S256x1024x128, .f32⟩
  | 9 => ⟨S256x1024x128, .f32⟩
  | 10 => ⟨S262144x128, .f32⟩
  | 11 => ⟨S256x1024x128, .f32⟩
  | 12 => ⟨S256x1024, .i1⟩
  | 13 => ⟨S262144, .i1⟩
  | 14 => ⟨S262144, .i32⟩
  | 15 => ⟨S_, .i32⟩
  | 16 => ⟨S_, .i32⟩
  | 17 => ⟨S262144, .i32⟩
  | 18 => ⟨S_, .i32⟩
  | 19 => ⟨S262144, .i32⟩
  | 20 => ⟨S_, .i32⟩
  | 21 => ⟨S262144, .i32⟩
  | 22 => ⟨S262144, .i1⟩
  | 23 => ⟨S_, .i32⟩
  | 24 => ⟨S262144, .i32⟩
  | 25 => ⟨S262144, .i32⟩
  | 26 => ⟨S262144, .i32⟩
  | 27 => ⟨S262144x1, .i32⟩
  | 28 => ⟨S_, .i32⟩
  | 29 => ⟨S262144, .i32⟩
  | 30 => ⟨S262144, .i32⟩
  | 31 => ⟨S_, .i32⟩
  | 32 => ⟨S_, .i32⟩
  | 33 => ⟨S262144, .i32⟩
  | 34 => ⟨S_, .i32⟩
  | 35 => ⟨S_, .i32⟩
  | 36 => ⟨S262144, .i32⟩
  | 37 => ⟨S262144, .i32⟩
  | 38 => ⟨S262144, .i32⟩
  | 39 => ⟨S_, .i32⟩
  | 40 => ⟨S262144, .i32⟩
  | 41 => ⟨S262144, .i1⟩
  | 42 => ⟨S262144, .i32⟩
  | 43 => ⟨S262144, .i32⟩
  | 44 => ⟨S_, .i32⟩
  | 45 => ⟨S262144, .i32⟩
  | 46 => ⟨S262144, .i1⟩
  | 47 => ⟨S262144, .i1⟩
  | 48 => ⟨S_, .i32⟩
  | 49 => ⟨S262144, .i32⟩
  | 50 => ⟨S262144, .i32⟩
  | 51 => ⟨S262144, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S262144, .i32⟩
  | 59 => ⟨S262144, .i32⟩
  | 60 => ⟨S_, .i32⟩
  | 61 => ⟨S262144, .i32⟩
  | 62 => ⟨S262144, .i1⟩
  | 63 => ⟨S_, .i32⟩
  | 64 => ⟨S262144, .i32⟩
  | 65 => ⟨S262144, .i1⟩
  | 66 => ⟨S_, .i32⟩
  | 67 => ⟨S_, .i1⟩
  | 68 => ⟨S262144, .i1⟩
  | 69 => ⟨S262144, .i1⟩
  | 70 => ⟨S262144, .i1⟩
  | 71 => ⟨S262144, .i32⟩
  | 72 => ⟨S262144, .i32⟩
  | 73 => ⟨S262144, .i32⟩
  | 74 => ⟨S_, .i32⟩
  | 75 => ⟨S_, .i32⟩
  | 76 => ⟨S262144, .i32⟩
  | 77 => ⟨S262144, .i32⟩
  | 78 => ⟨S262144, .i32⟩
  | 79 => ⟨S_, .i32⟩
  | 80 => ⟨S262144, .i32⟩
  | 81 => ⟨S262144, .i1⟩
  | 82 => ⟨S262144, .i32⟩
  | 83 => ⟨S262144, .i32⟩
  | 84 => ⟨S_, .i32⟩
  | 85 => ⟨S262144, .i32⟩
  | 86 => ⟨S262144, .i1⟩
  | 87 => ⟨S262144, .i1⟩
  | 88 => ⟨S_, .i32⟩
  | 89 => ⟨S262144, .i32⟩
  | 90 => ⟨S262144, .i32⟩
  | 91 => ⟨S262144, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S262144, .i32⟩
  | 99 => ⟨S262144, .i32⟩
  | 100 => ⟨S_, .i32⟩
  | 101 => ⟨S262144, .i32⟩
  | 102 => ⟨S262144, .i1⟩
  | 103 => ⟨S_, .i32⟩
  | 104 => ⟨S262144, .i32⟩
  | 105 => ⟨S262144, .i1⟩
  | 106 => ⟨S_, .i32⟩
  | 107 => ⟨S_, .i1⟩
  | 108 => ⟨S262144, .i1⟩
  | 109 => ⟨S262144, .i1⟩
  | 110 => ⟨S262144, .i1⟩
  | 111 => ⟨S262144, .i32⟩
  | 112 => ⟨S262144, .i32⟩
  | 113 => ⟨S262144, .i32⟩
  | 114 => ⟨S262144, .i32⟩
  | 115 => ⟨S_, .i32⟩
  | 116 => ⟨S_, .i32⟩
  | 117 => ⟨S1, .i32⟩
  | 118 => ⟨S262144, .i32⟩
  | 119 => ⟨S262144, .i32⟩
  | 120 => ⟨S262144, .i1⟩
  | 121 => ⟨S_, .i32⟩
  | 122 => ⟨S_, .i32⟩
  | 123 => ⟨S262144, .i32⟩
  | 124 => ⟨S262144, .i32⟩
  | 125 => ⟨S_, .i32⟩
  | 126 => ⟨S_, .i32⟩
  | 127 => ⟨S262144, .i32⟩
  | _ => ⟨S256x1024x128, .f32⟩

abbrev hbmTy0_1 (i : Nat) : BufTy := match i % 128 with
  | 0 => ⟨S262144, .i32⟩
  | 1 => ⟨S_, .i32⟩
  | 2 => ⟨S262144, .i32⟩
  | 3 => ⟨S262144, .i1⟩
  | 4 => ⟨S_, .i32⟩
  | 5 => ⟨S262144, .i32⟩
  | 6 => ⟨S262144, .i32⟩
  | 7 => ⟨S262144, .i32⟩
  | 8 => ⟨S_, .i32⟩
  | 9 => ⟨S262144, .i32⟩
  | 10 => ⟨S262144, .i1⟩
  | 11 => ⟨S_, .i32⟩
  | 12 => ⟨S262144, .i32⟩
  | 13 => ⟨S262144, .i32⟩
  | 14 => ⟨S262144, .i32⟩
  | 15 => ⟨S262144x1, .i32⟩
  | 16 => ⟨S262144x1, .i32⟩
  | 17 => ⟨S262144x2, .i32⟩
  | 18 => ⟨S256x1024x128, .f32⟩
  | 19 => ⟨S256x1024x128, .f32⟩
  | 20 => ⟨S256x1024x128, .f32⟩
  | _ => ⟨S256x1024x128, .f32⟩

abbrev hbmTy (i : Nat) : BufTy := match i / 128 with
  | 0 => hbmTy0_0 i
  | 1 => hbmTy0_1 i
  | _ => ⟨S256x1024x128, .f32⟩

abbrev bufTy : (tb : Table) → Fin (tcTables nBuf tb) → BufTy
  | .hbm, ⟨i, _⟩ => hbmTy i
  | _, _ => ⟨S256x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_call0_c : Ref sig .tc := ⟨.hbm, 15, rfl⟩
abbrev main_call0_call0_v0 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_call1_call0_c : Ref sig .tc := ⟨.hbm, 31, rfl⟩
abbrev main_call1_call0_v0 : Ref sig .tc := ⟨.hbm, 32, rfl⟩
abbrev main_v18 : Ref sig .tc := ⟨.hbm, 33, rfl⟩
abbrev main_c_3 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v19 : Ref sig .tc := ⟨.hbm, 51, rfl⟩
abbrev main_c_4 : Ref sig .tc := ⟨.hbm, 52, rfl⟩
abbrev main_call3_v0 : Ref sig .tc := ⟨.hbm, 53, rfl⟩
abbrev main_call3_c : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_c_1 : Ref sig .tc := ⟨.hbm, 60, rfl⟩
abbrev main_call3_v5 : Ref sig .tc := ⟨.hbm, 61, rfl⟩
abbrev main_call3_v6 : Ref sig .tc := ⟨.hbm, 62, rfl⟩
abbrev main_call3_c_2 : Ref sig .tc := ⟨.hbm, 63, rfl⟩
abbrev main_call3_v7 : Ref sig .tc := ⟨.hbm, 64, rfl⟩
abbrev main_call3_v8 : Ref sig .tc := ⟨.hbm, 65, rfl⟩
abbrev main_call3_c_3 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_v12 : Ref sig .tc := ⟨.hbm, 70, rfl⟩
abbrev main_call3_v13 : Ref sig .tc := ⟨.hbm, 71, rfl⟩
abbrev main_call3_v14 : Ref sig .tc := ⟨.hbm, 72, rfl⟩
abbrev main_v20 : Ref sig .tc := ⟨.hbm, 73, rfl⟩
abbrev main_c_5 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_v6 : Ref sig .tc := ⟨.hbm, 81, rfl⟩
abbrev main_call4_v7 : Ref sig .tc := ⟨.hbm, 82, rfl⟩
abbrev main_call4_v8 : Ref sig .tc := ⟨.hbm, 83, rfl⟩
abbrev main_call4_c : Ref sig .tc := ⟨.hbm, 84, rfl⟩
abbrev main_call4_v9 : Ref sig .tc := ⟨.hbm, 85, rfl⟩
abbrev main_call4_v10 : Ref sig .tc := ⟨.hbm, 86, rfl⟩
abbrev main_call4_v11 : Ref sig .tc := ⟨.hbm, 87, rfl⟩
abbrev main_call4_c_0 : Ref sig .tc := ⟨.hbm, 88, rfl⟩
abbrev main_call4_v12 : Ref sig .tc := ⟨.hbm, 89, rfl⟩
abbrev main_call4_v13 : Ref sig .tc := ⟨.hbm, 90, rfl⟩
abbrev main_v21 : Ref sig .tc := ⟨.hbm, 91, rfl⟩
abbrev main_c_6 : Ref sig .tc := ⟨.hbm, 92, rfl⟩
abbrev main_call5_v0 : Ref sig .tc := ⟨.hbm, 93, rfl⟩
abbrev main_call5_c : Ref sig .tc := ⟨.hbm, 94, rfl⟩
abbrev main_call5_v1 : Ref sig .tc := ⟨.hbm, 95, rfl⟩
abbrev main_call5_c_0 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_call5_c_1 : Ref sig .tc := ⟨.hbm, 100, rfl⟩
abbrev main_call5_v5 : Ref sig .tc := ⟨.hbm, 101, rfl⟩
abbrev main_call5_v6 : Ref sig .tc := ⟨.hbm, 102, rfl⟩
abbrev main_call5_c_2 : Ref sig .tc := ⟨.hbm, 103, rfl⟩
abbrev main_call5_v7 : Ref sig .tc := ⟨.hbm, 104, rfl⟩
abbrev main_call5_v8 : Ref sig .tc := ⟨.hbm, 105, rfl⟩
abbrev main_call5_c_3 : Ref sig .tc := ⟨.hbm, 106, rfl⟩
abbrev main_call5_v9 : Ref sig .tc := ⟨.hbm, 107, rfl⟩
abbrev main_call5_v10 : Ref sig .tc := ⟨.hbm, 108, rfl⟩
abbrev main_call5_v11 : Ref sig .tc := ⟨.hbm, 109, rfl⟩
abbrev main_call5_v12 : Ref sig .tc := ⟨.hbm, 110, rfl⟩
abbrev main_call5_v13 : Ref sig .tc := ⟨.hbm, 111, rfl⟩
abbrev main_call5_v14 : Ref sig .tc := ⟨.hbm, 112, rfl⟩
abbrev main_v22 : Ref sig .tc := ⟨.hbm, 113, rfl⟩
abbrev main_v23 : Ref sig .tc := ⟨.hbm, 114, rfl⟩
abbrev main_c_7 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_v27 : Ref sig .tc := ⟨.hbm, 119, rfl⟩
abbrev main_v28 : Ref sig .tc := ⟨.hbm, 120, rfl⟩
abbrev main_c_8 : Ref sig .tc := ⟨.hbm, 121, rfl⟩
abbrev main_call6_v0 : Ref sig .tc := ⟨.hbm, 122, rfl⟩
abbrev main_call6_v1 : Ref sig .tc := ⟨.hbm, 123, rfl⟩
abbrev main_v29 : Ref sig .tc := ⟨.hbm, 124, rfl⟩
abbrev main_c_9 : Ref sig .tc := ⟨.hbm, 125, rfl⟩
abbrev main_call7_v0 : Ref sig .tc := ⟨.hbm, 126, rfl⟩
abbrev main_call7_v1 : Ref sig .tc := ⟨.hbm, 127, rfl⟩
abbrev main_v30 : Ref sig .tc := ⟨.hbm, 128, rfl⟩
abbrev main_c_10 : Ref sig .tc := ⟨.hbm, 129, rfl⟩
abbrev main_v31 : Ref sig .tc := ⟨.hbm, 130, rfl⟩
abbrev main_v32 : Ref sig .tc := ⟨.hbm, 131, rfl⟩
abbrev main_c_11 : Ref sig .tc := ⟨.hbm, 132, rfl⟩
abbrev main_v33 : Ref sig .tc := ⟨.hbm, 133, rfl⟩
abbrev main_v34 : Ref sig .tc := ⟨.hbm, 134, rfl⟩
abbrev main_v35 : Ref sig .tc := ⟨.hbm, 135, rfl⟩
abbrev main_c_12 : Ref sig .tc := ⟨.hbm, 136, rfl⟩
abbrev main_v36 : Ref sig .tc := ⟨.hbm, 137, rfl⟩
abbrev main_v37 : Ref sig .tc := ⟨.hbm, 138, rfl⟩
abbrev main_c_13 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_v44 : Ref sig .tc := ⟨.hbm, 146, rfl⟩
abbrev main_v45 : Ref sig .tc := ⟨.hbm, 147, rfl⟩
abbrev main_v46 : Ref sig .tc := ⟨.hbm, 148, rfl⟩

abbrev nD : Nat := 1
abbrev τ : Topo := Topo.v7x

variable {F : FTy → Type} [FloatOps F]
-- ==== Proof.KernelBlock.lean ====
/- What the kernel computes for one block of 1024 rows, and the array of all rows that its 256 blocks fill. -/
module

public import proofs.«01_k».proof.Proof.Gen.KernelIdeal.Skeleton
public import Idealize.ShloMosaic.Lib.Pointwise

@[expose] public section

noncomputable section

namespace Cert.Proof.KernelBlock

open Idealize.ShloMosaic Cert.KernelIdeal Cert.KernelIdeal.Gen

/-- Entry `(r, e)` of the block the kernel stores: the sum over `k` of `x (r, k) * W (k, e)`, plus the third operand at `(r, e)`. -/
theorem block_at (x : FVec Ideal S1024x128 .f32) (W : FVec Ideal S128x128 .f32) (add : FVec Ideal S1024x128 .f32) (r : Fin 1024) (e : Fin 128) :
    k0_pay1 x W add (ix2 r e) = (∑ k : Fin 128, x (ix2 r k) * W (ix2 k e)) + add (ix2 r e) := by
  unfold k0_pay1
  pointwise

/-- The array of all rows: entry `(n, e)` is the sum over `k` of `x (n, k) * W (k, e)`, plus the third operand at
    `(n mod 1024, e)`. -/
def rows (x : FVec Ideal S262144x128 .f32) (W : FVec Ideal S128x128 .f32) (add : FVec Ideal S1024x128 .f32) : FVec Ideal S262144x128 .f32 :=
  fun i => (∑ k : Fin 128, x (ix2 (i 0) k) * W (ix2 k (i 1))) + add (ix2 ⟨(i 0).val % 1024, Nat.mod_lt _ (by decide)⟩ (i 1))

end Cert.Proof.KernelBlock

end
-- ==== Proof.KernelArray.lean ====
/- What the kernel's output array holds after the run: block by block, the array of all rows. -/
module

public import proofs.«01_k».proof.Proof.Gen.KernelIdeal.Frame
public import proofs.«01_k».proof.Proof.KernelBlock
public import Idealize.ShloMosaic.Lib.Pipeline.Value
public import Idealize.ShloMosaic.Lib.Pipeline.ValueKit

@[expose] public section

noncomputable section

namespace Cert.Proof.KernelArray

open Idealize.ShloMosaic Idealize.ShloMosaic.TcCoe Idealize.SL.Sem Cert.KernelIdeal Cert.KernelIdeal.Gen Cert.Proof.KernelBlock
open Idealize.ShloMosaic.Pipeline (Dat)

variable (m : (ℓ : Loc nD τ sig) → Buf (Elt Ideal) ℓ)

/-- Point `t` reads block `t` of the flattened input, -/
theorem input_block : ∀ t : Fin cfg0.N, win0_0.index t = ![t.val, 0] :=
  (by decide +kernel : ∀ t : Fin grid0.N, win0_0.index t = ![t.val, 0])
/-- the whole weight matrix, -/
theorem weight_block : ∀ t : Fin cfg0.N, win0_1.index t = ![0, 0] :=
  (by decide +kernel : ∀ t : Fin grid0.N, win0_1.index t = ![0, 0])
/-- the whole array of biased position embeddings, -/
theorem add_block : ∀ t : Fin cfg0.N, win0_2.index t = ![0, 0] :=
  (by decide +kernel : ∀ t : Fin grid0.N, win0_2.index t = ![0, 0])
/-- and writes block `t` of the output. -/
theorem output_block : ∀ t : Fin cfg0.N, win0_3.index t = ![t.val, 0] :=
  (by decide +kernel : ∀ t : Fin grid0.N, win0_3.index t = ![t.val, 0])

/-- Row `r` of block `t` is row `t * 1024 + r` of the output array; the column is the block's own. -/
theorem output_row (t : Fin cfg0.N) (r : Fin 1024) (e : Fin 128) (h : t.val * 1024 + r.val < 262144) :
    ((cfg0.win 3).blk t).view.emb (ix2 r e : S1024x128.Idx) = (ix2 ⟨t.val * 1024 + r.val, h⟩ e : S262144x128.Idx) := by
  blk_ext [output_block]

/-- Entry `(r, k)` of the input block at point `t` is entry `(t * 1024 + r, k)` of the flattened input. -/
theorem input_at (c : Dev nD) (t : Fin cfg0.N) (r : Fin 1024) (k : Fin 128) (h : t.val * 1024 + r.val < 262144) :
    (iblk m c 0 t : FVec Ideal S1024x128 .f32) (ix2 r k) = (V m c main_v0 : FVec Ideal S262144x128 .f32) (ix2 ⟨t.val * 1024 + r.val, h⟩ k) := by
  unfold iblk
  refine congrArg (V m c main_v0 : FVec Ideal S262144x128 .f32) ?_
  blk_ext [input_block]

/-- The weight block at every point is the whole weight matrix. -/
theorem weight_at (c : Dev nD) (t : Fin cfg0.N) (k e : Fin 128) :
    (iblk m c 1 t : FVec Ideal S128x128 .f32) (ix2 k e) = (V m c main_arg2 : FVec Ideal S128x128 .f32) (ix2 k e) := by
  unfold iblk
  refine congrArg (V m c main_arg2 : FVec Ideal S128x128 .f32) ?_
  blk_ext [weight_block]

/-- The third operand's block at every point is the whole of it. -/
theorem add_at (c : Dev nD) (t : Fin cfg0.N) (r : Fin 1024) (e : Fin 128) :
    (iblk m c 2 t : FVec Ideal S1024x128 .f32) (ix2 r e) = (V m c main_v4 : FVec Ideal S1024x128 .f32) (ix2 r e) := by
  unfold iblk
  refine congrArg (V m c main_v4 : FVec Ideal S1024x128 .f32) ?_
  blk_ext [add_block]

/-- After the run the output array is the array of all rows of the three operands as the kernel finds them. -/
theorem array_eq (c : Dev nD) : (dats m 0 c).arrAt 3 cfg0.N = rows (V m c main_v0) (V m c main_arg2) (V m c main_v4) := by
  refine (dats m 0 c).arrAt_eq_of_covers 3 _ (by decide +kernel) fun t hf y => ?_
  blk_simp
  rw [after0_3]
  frame_out
  obtain ⟨r, e, rfl⟩ : ∃ (r : Fin 1024) (e : Fin 128), y = (ix2 r e : S1024x128.Idx) := ⟨y 0, y 1, eq_ix2 (n0 := 1024) (n1 := 128) y⟩
  have ht : t.val < 256 := t.isLt
  have h : t.val * 1024 + r.val < 262144 := by have := r.isLt; omega
  refine (block_at _ _ _ r e).trans ?_
  refine Eq.trans ?_ (congrArg (rows (V m c main_v0) (V m c main_arg2) (V m c main_v4)) (output_row t r e h)).symm
  have hr : (⟨(t.val * 1024 + r.val) % 1024, Nat.mod_lt _ (by decide)⟩ : Fin 1024) = r := Fin.ext (by
    show (t.val * 1024 + r.val) % 1024 = r.val
    have := r.isLt
    omega)
  unfold rows
  simp only [ix2_0, ix2_1]
  rw [hr, add_at]
  refine congrArg (fun v => v + (V m c main_v4 : FVec Ideal S1024x128 .f32) (ix2 r e)) (Finset.sum_congr rfl fun k _ => ?_)
  rw [input_at m c t r k h, weight_at]

end Cert.Proof.KernelArray

end
-- ==== Proof.KernelValue.lean ====
/- What the kernel's result holds after the run, entry by entry, from the argument arrays as launched: the host operations
   before the kernel (two reshapes, a broadcast and a sum) and the reshape after it, around the array of all rows. -/
module

public import proofs.«01_k».proof.Proof.KernelArray
public import Idealize.ShloMosaic.Lib.Claim

@[expose] public section

noncomputable section

namespace Cert.Proof.KernelValue

open Idealize.ShloMosaic Idealize.ShloMosaic.TcCoe Idealize.SL.Sem Cert.KernelIdeal Cert.KernelIdeal.Gen Cert.Proof.KernelBlock Cert.Proof.KernelArray
open Idealize.ShloMosaic.Pipeline (Dat)

variable (m : (ℓ : Loc nD τ sig) → Buf (Elt Ideal) ℓ)

/-- The kernel finds the input flattened to rows, -/
theorem entry_input (c : Dev nD) : (V m c main_v0 : FVec Ideal S262144x128 .f32)
    = shapeCast S262144x128 (m ((c : Thread nD τ).loc main_arg0) : FVec Ideal S256x1024x128 .f32) shapeCasts_S256x1024x128_S262144x128 := by
  show StableHlo.after (List.flatten [hostOps0]) _ _ = _
  simp only [hostOps0, List.flatten_cons, List.flatten_nil, List.append_nil, List.cons_append, List.nil_append]
  after_results
  rfl

/-- and the position embeddings with the bias added to each. -/
theorem entry_add (c : Dev nD) : (V m c main_v4 : FVec Ideal S1024x128 .f32)
    = addf (F := Ideal) (φ := .f32) (s := S1024x128) (shapeCast S1024x128 (m ((c : Thread nD τ).loc main_arg5) : FVec Ideal S1x1024x128 .f32) shapeCasts_S1x1024x128_S1024x128)
        (broadcastInDim (s := S1x128) S1024x128 ![0, 1] bcast_S1x128_S1024x128_0_1 (broadcastInDim (s := S128) S1x128 ![1] bcast_S128_S1x128_1
          (m ((c : Thread nD τ).loc main_arg3) : FVec Ideal S128 .f32))) := by
  show StableHlo.after (List.flatten [hostOps0]) _ _ = _
  simp only [hostOps0, List.flatten_cons, List.flatten_nil, List.append_nil, List.cons_append, List.nil_append]
  after_results
  rfl

/-- The result is the output array reshaped. -/
theorem exit_result (c : Dev nD) : (Pipeline.afterTail₀ cfgs (dats m) 0 (V0 m) [hostOps1] c main_v6 : FVec Ideal S256x1024x128 .f32)
    = shapeCast S256x1024x128 ((dats m 0 c).arrAt 3 cfg0.N : FVec Ideal S262144x128 .f32) shapeCasts_S262144x128_S256x1024x128 := by
  unfold Pipeline.afterTail₀
  simp only [hostOps1, List.flatten_cons, List.flatten_nil, List.append_nil, List.cons_append, List.nil_append]
  after_results
  exact congrArg (fun a : FVec Ideal S262144x128 .f32 => shapeCast S256x1024x128 a shapeCasts_S262144x128_S256x1024x128)
    (Pipeline.withArrays_arr spec0 launch0.win.arr_inj c (V0 m c) (fun w => (dats m 0 c).arrAt w (cfgs 0).N) 3)

/-- Row `b * 1024 + p` of an array of 262144 rows is row `(b, p)` of it reshaped to 256 images of 1024 rows. -/
theorem stack_at (y : FVec Ideal S262144x128 .f32) (h : S262144x128.ShapeCasts S256x1024x128) (b : Fin 256) (p : Fin 1024) (e : Fin 128) (n : Fin 262144)
    (hn : n.val = b.val * 1024 + p.val) : shapeCast S256x1024x128 y h (ix3 b p e) = y (ix2 n e) := by
  refine shapeCast_apply y h _ _ ?_
  rw [Shape.rowMajor_val_three, Shape.rowMajor_val_two]
  show n.val * 128 + e.val = (b.val * 1024 + p.val) * 128 + e.val
  rw [hn]

/-- The same the other way: row `b * 1024 + p` of 256 images of 1024 rows flattened is row `(b, p)`. -/
theorem flat_at (y : FVec Ideal S256x1024x128 .f32) (h : S256x1024x128.ShapeCasts S262144x128) (b : Fin 256) (p : Fin 1024) (k : Fin 128) (n : Fin 262144)
    (hn : n.val = b.val * 1024 + p.val) : shapeCast S262144x128 y h (ix2 n k) = y (ix3 b p k) := by
  refine shapeCast_apply y h _ _ ?_
  rw [Shape.rowMajor_val_three, Shape.rowMajor_val_two]
  show (b.val * 1024 + p.val) * 128 + k.val = n.val * 128 + k.val
  rw [hn]

/-- The position embeddings with the bias added: at `(p, e)`, the embedding at `(0, p, e)` plus the bias at `e`. -/
theorem biased_at (pos : FVec Ideal S1x1024x128 .f32) (bias : FVec Ideal S128 .f32) (p : Fin 1024) (e : Fin 128) :
    addf (F := Ideal) (φ := .f32) (s := S1024x128) (shapeCast S1024x128 pos shapeCasts_S1x1024x128_S1024x128)
      (broadcastInDim (s := S1x128) S1024x128 ![0, 1] bcast_S1x128_S1024x128_0_1 (broadcastInDim (s := S128) S1x128 ![1] bcast_S128_S1x128_1 bias)) (ix2 p e)
      = pos (ix3 0 p e) + bias (ix1 e) := by
  pointwise

/-- Entry `(b, p, e)` of the kernel's result: the sum over `k` of `x (b, p, k) * W (k, e)`, plus the position embedding at
    `(0, p, e)` with the bias at `e` added to it. -/
theorem result_at (c : Dev nD) (x : FVec Ideal S256x1024x128 .f32) (W : FVec Ideal S128x128 .f32) (bias : FVec Ideal S128 .f32) (pos : FVec Ideal S1x1024x128 .f32)
    (hx : m ((c : Thread nD τ).loc main_arg0) = x) (hW : m ((c : Thread nD τ).loc main_arg2) = W) (hb : m ((c : Thread nD τ).loc main_arg3) = bias)
    (hp : m ((c : Thread nD τ).loc main_arg5) = pos) (b : Fin 256) (p : Fin 1024) (e : Fin 128) :
    (Pipeline.afterTail₀ cfgs (dats m) 0 (V0 m) [hostOps1] c main_v6 : FVec Ideal S256x1024x128 .f32) (ix3 b p e)
      = (∑ k : Fin 128, x (ix3 b p k) * W (ix2 k e)) + (pos (ix3 0 p e) + bias (ix1 e)) := by
  have hlt : b.val * 1024 + p.val < 262144 := by have := b.isLt; have := p.isLt; omega
  have hr : (⟨(b.val * 1024 + p.val) % 1024, Nat.mod_lt _ (by decide)⟩ : Fin 1024) = p := Fin.ext (by
    show (b.val * 1024 + p.val) % 1024 = p.val
    have := p.isLt
    omega)
  rw [exit_result, stack_at _ _ b p e ⟨_, hlt⟩ rfl, array_eq]
  unfold rows
  simp only [ix2_0, ix2_1]
  rw [hr, entry_add, hp, hb, biased_at]
  refine congrArg (fun v => v + (pos (ix3 0 p e) + bias (ix1 e))) (Finset.sum_congr rfl fun k _ => ?_)
  rw [entry_input, hx, flat_at _ _ b p k _ rfl]
  exact congrArg (fun w : FVec Ideal S128x128 .f32 => x (ix3 b p k) * w (ix2 k e)) ((V_main_arg2 m c).trans hW)

/-- The run of the kernel: its result is what the last reshape leaves, and the argument arrays end unchanged. -/
theorem run (ρ : Dev nD → PrngReg) : θ_run defs (onTc (τ := τ) (main (F := Ideal))) ⟨m, fun _ => 0, ρ⟩ fun r => ∀ c : Dev nD,
      r.2.mem ((c : Thread nD τ).loc main_v6) = Pipeline.afterTail₀ cfgs (dats m) 0 (V0 m) [hostOps1] c main_v6
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_main m ρ)
  have kept (b : Ref sig .tc) (hb : b ∈ Pipeline.restRefs sig spec0) := (h c).2 b hb
  exact ⟨kept main_v6 (Pipeline.mem_restRefs_of _ (by decide) (by decide)),
    (kept main_arg0 (Pipeline.mem_restRefs_of _ (by decide) (by decide))).trans (W_main_arg0 m (dats m) c),
    (kept main_arg1 (Pipeline.mem_restRefs_of _ (by decide) (by decide))).trans (W_main_arg1 m (dats m) c),
    ((h c).1 1).trans (((dats m 0 c).arrAt_in 1 rfl _).trans ((A_eq m c 1).trans (V_main_arg2 m c))),
    (kept main_arg3 (Pipeline.mem_restRefs_of _ (by decide) (by decide))).trans (W_main_arg3 m (dats m) c),
    (kept main_arg4 (Pipeline.mem_restRefs_of _ (by decide) (by decide))).trans (W_main_arg4 m (dats m) c),
    (kept main_arg5 (Pipeline.mem_restRefs_of _ (by decide) (by decide))).trans (W_main_arg5 m (dats m) c)⟩

end Cert.Proof.KernelValue

end
-- ==== Proof.Words.lean ====
/- jnp's floor_divide and remainder of an array of words by a scalar word, read at one index where both words hold
   numbers below 2 ^ 31: the quotient and the remainder of natural numbers. Nothing here names a program. -/
module

public import Idealize.ShloMosaic.Lib.Routing.Ops
public import Idealize.ShloMosaic.Lib.Routing.OpsSearch
public import Idealize.ShloMosaic.Lib.Routing.OpsPair
public import Idealize.ShloMosaic.Lib.Pointwise.ElementwiseCore

@[expose] public section

namespace Cert.Proof.Words

open Idealize.ShloMosaic Idealize.ShloMosaic.ValueIdx Idealize.ShloMosaic.Routing

variable {s : Shape} (i : s.Idx) (h : shape0.BroadcastsInDim s (![] : Fin 0 → Fin s.rank))

/-- A word that holds a number below 2 ^ 31 is not negative: the signed test "less than zero" answers 0. -/
theorem slt_zero_word {a : Nat} (ha : a < 2 ^ 31) : IntOp.cmpi .slt (BitVec.ofNat 32 a) 0#32 = 0#1 := by
  rw [WordCmp.cmpi_slt_zero, WordCmp.toNat_ofNat_of_lt (show a < 2 ^ 32 by omega)]
  rw [decide_eq_false (by omega)]
  rfl

/-- The and of a zero bit with any bit, used as a choice, takes the second branch. -/
theorem choose_second {α : Type} (c : BitVec 1) (x y : α) : Scalar.select (IntOp.andi 0#1 c) x y = y := by
  show Scalar.select (0#1 &&& c) x y = y
  rw [BitVec.zero_and]
  rfl

/-- jnp's `floor_divide(x, d)` (the quotient rounded to zero, less one where the signs differ and the remainder is not
    zero), at an index where `x` holds `a` and `d` holds `b`: it holds `a / b`. -/
theorem floor_divide_at (x : IVec s 32) (d : IVec shape0 32) {a b : Nat} (hx : x i = BitVec.ofNat 32 a) (hd : d ix0 = BitVec.ofNat 32 b)
    (ha : a < 2 ^ 31) (h0 : 0 < b) (hb : b < 2 ^ 31) :
    select (andi (cmpi .ne (signi x) (broadcastInDim s ![] h (signi d)))
        (cmpi .ne (Host.remsi x (broadcastInDim s ![] h d)) (broadcastInDim s ![] h (constantI shape0 32 0#32))))
      (subi (Host.divsi x (broadcastInDim s ![] h d)) (broadcastInDim s ![] h (constantI shape0 32 1#32)))
      (Host.divsi x (broadcastInDim s ![] h d)) i = BitVec.ofNat 32 (a / b) := by
  simp only [select_apply, andi_apply, cmpi_apply, subi_apply, Host.divsi_apply, Host.remsi_apply, bc0, signi_apply, hx, hd,
    divsi_word .host ha h0 hb, remsi_word .host ha h0 hb, msb_ofNat32 ha, msb_ofNat32 hb, if_neg (ofNat32_ne_zero h0 (show b < 2 ^ 32 by omega))]
  rcases Nat.eq_zero_or_pos a with e | e
  · subst e
    rw [Nat.zero_mod, Nat.zero_div]
    rfl
  · rw [if_neg (ofNat32_ne_zero e (show a < 2 ^ 32 by omega))]
    exact choose_second _ _ _

/-- jnp's `remainder(q, d)` (the machine's remainder by `d`, or by 1 where `d` is 0; plus the divisor where the signs
    differ and it is not zero), at an index where `q` holds `a` and `d` holds `b`: it holds `a % b`. -/
theorem remainder_at (q : IVec s 32) (d : IVec shape0 32) {a b : Nat} (hq : q i = BitVec.ofNat 32 a) (hd : d ix0 = BitVec.ofNat 32 b)
    (ha : a < 2 ^ 31) (h0 : 0 < b) (hb : b < 2 ^ 31) (e : IVec shape0 32)
    (he : e = select (cmpi .eq d (constantI shape0 32 0#32)) (constantI shape0 32 1#32) d) :
    select (andi (cmpi .ne (cmpi .slt (Host.remsi q (broadcastInDim s ![] h e)) (broadcastInDim s ![] h (constantI shape0 32 0#32)))
          (broadcastInDim s ![] h (cmpi .slt e (constantI shape0 32 0#32))))
        (cmpi .ne (Host.remsi q (broadcastInDim s ![] h e)) (broadcastInDim s ![] h (constantI shape0 32 0#32))))
      (addi (Host.remsi q (broadcastInDim s ![] h e)) (broadcastInDim s ![] h e))
      (Host.remsi q (broadcastInDim s ![] h e)) i = BitVec.ofNat 32 (a % b) := by
  have hne : IntOp.cmpi .eq (BitVec.ofNat 32 b) 0#32 = 0#1 := by
    refine eq_zero_of_ne_one fun hh => ?_
    exact ofNat32_ne_zero h0 (show b < 2 ^ 32 by omega) (StableHlo.Predicate.cmpi_eq_iff.1 hh)
  have hev : e ix0 = BitVec.ofNat 32 b := by
    rw [he]
    simp only [select_apply, cmpi_apply, constantI_apply, hd]
    rw [hne]
    rfl
  have hr : a % b < 2 ^ 31 := lt_of_lt_of_le (Nat.mod_lt _ h0) hb.le
  simp only [select_apply, andi_apply, cmpi_apply, Host.remsi_apply, bc0, hq, hev, remsi_word .host ha h0 hb]
  have z : (constantI shape0 32 0#32) ix0 = 0#32 := rfl
  rw [z, slt_zero_word hr, slt_zero_word hb]
  exact choose_second _ _ _

/-- jnp's index normalisation (a negative index counts from the end), at an index where the word is not negative: the word. -/
theorem wrap_at (x : IVec s 32) (n : BitVec 32) {a : Nat} (hx : x i = BitVec.ofNat 32 a) (ha : a < 2 ^ 31) :
    select (cmpi .slt x (broadcastInDim s ![] h (constantI shape0 32 0#32))) (addi x (broadcastInDim s ![] h (constantI shape0 32 n))) x i
      = BitVec.ofNat 32 a := by
  simp only [select_apply, cmpi_apply, bc0, hx]
  have z : (constantI shape0 32 0#32) ix0 = 0#32 := rfl
  rw [z, slt_zero_word ha]
  rfl

end Cert.Proof.Words

end
-- ==== Proof.Positions.lean ====
/- What the reference's `jnp.nonzero(~mask)` returns when no patch is masked: the row-major list of all positions.
   Entry `i` of its two index vectors holds `i / 1024` and `i % 1024`. -/
module

public import proofs.«01_k».proof.Proof.Words
public import proofs.«01_k».proof.Proof.Gen.ReferenceIdeal.Run

@[expose] public section

noncomputable section

namespace Cert.Proof.Positions

open Idealize.ShloMosaic Idealize.ShloMosaic.ValueIdx Idealize.ShloMosaic.Routing Idealize.SL.Sem Cert.ReferenceIdeal Cert.ReferenceIdeal.Gen
  Cert.ReferenceIdeal.Value Cert.Proof.Words

variable {F : FTy → Type} [FloatOps F] (V : Valuation τ sig (Elt F))

/-- The mask as the reference is given it: an array of bits. -/
abbrev maskOf : IVec S256x1024 1 := V (Proc.devRef .tc main_arg1)

/-- The sum of 1 over `0 … n - 1` is `n`. -/
theorem sum_ones (n : Nat) : ((List.range n).map fun _ => 1).sum = n := by
  simp

/-- The sum over `0 … n` of "1 except at 0" is `n`. -/
theorem sum_after_zero (n : Nat) : ((List.range (n + 1)).map fun x => if x = 0 then 0 else 1).sum = n := by
  rw [List.range_succ_eq_map, List.map_cons, List.map_map, List.sum_cons, if_pos rfl, Nat.zero_add]
  have e : ((fun x : Nat => if x = 0 then (0 : Nat) else 1) ∘ Nat.succ) = fun _ : Nat => (1 : Nat) := by
    funext x
    show (if x.succ = 0 then 0 else 1) = 1
    rw [if_neg (Nat.succ_ne_zero x)]
  rw [e, sum_ones]

/-- How many of `0 … n - 1` have successor `x`, for `x < n`: one, unless `x` is 0. -/
theorem count_succ (n x : Nat) (hx : x < n) : Nat.count (fun i => i + 1 = x) n = if x = 0 then 0 else 1 := by
  induction n with
  | zero => exact absurd hx (Nat.not_lt_zero x)
  | succ n ih =>
    rw [Nat.count_succ]
    rcases Nat.lt_or_ge x n with h | h
    · have hn : ¬ n + 1 = x := by omega
      rw [ih h, if_neg hn, Nat.add_zero]
    · obtain rfl : x = n := by omega
      have hn : ¬ x + 1 = x := by omega
      rw [if_neg hn, Nat.add_zero]
      rcases Nat.eq_zero_or_pos x with z | z
      · subst z
        rfl
      · have hz : ¬ x = 0 := by omega
        rw [if_neg hz]
        obtain ⟨y, rfl⟩ : ∃ y, x = y + 1 := ⟨x - 1, by omega⟩
        rw [Nat.count_succ, if_pos rfl]
        have : Nat.count (fun i => i + 1 = y + 1) y = 0 := by
          rw [Nat.count_eq_card_filter_range, Finset.card_eq_zero, Finset.filter_eq_empty_iff]
          intro i hi
          have := Finset.mem_range.1 hi
          omega
        omega

section Unmasked

variable (hmask : ∀ (b : Fin 256) (p : Fin 1024), maskOf V (ix2 b p) = 0#1)
include hmask

/-- The flattened complement of the mask, widened to words: every entry is 1. -/
theorem kept_at (i : Fin 262144) : (extui 32 (res_main_v7 V : IVec S262144 1) natLt_1_32 : IVec S262144 32) (ix1 i) = BitVec.ofNat 32 1 := by
  have hb : i.val / 1024 < 256 := by have := i.isLt; omega
  have e : (res_main_v7 V : IVec S262144 1) (ix1 i) = 1#1 := by
    unfold res_main_v7
    refine (cast21 (noti (maskOf V)) _ ⟨i.val / 1024, hb⟩ ⟨i.val % 1024, Nat.mod_lt _ (by decide)⟩ i ?_).trans ?_
    · show i.val = i.val / 1024 * 1024 + i.val % 1024
      omega
    · show ~~~ (maskOf V (ix2 _ _)) = 1#1
      rw [hmask]
      rfl
  show BitVec.setWidth 32 ((res_main_v7 V : IVec S262144 1) (ix1 i)) = _
  rw [e]
  rfl

/-- The running count of kept patches: entry `i` holds `i + 1`. -/
theorem running_count_at (i : Fin 262144) : (res_main_v8 V : IVec S262144 32) (ix1 i) = BitVec.ofNat 32 (i.val + 1) := by
  unfold res_main_v8
  refine (cumsum1 (N := 262144) (Nm1 := 262143) rfl _ (fun _ => 1) (kept_at V hmask) _ ?_ _ _ i).trans ?_
  · exact bc0 _ _ _
  · rw [sum_ones]

/-- The list of kept positions before it is split in two: entry `i` holds `i`. -/
theorem position_at (i : Fin 262144) : (res_main_v18 V : IVec S262144 32) (ix1 i) = BitVec.ofNat 32 i.val := by
  unfold res_main_v18
  refine (cumsum1 (N := 262144) (Nm1 := 262143) rfl _ (fun x => if x = 0 then 0 else 1) (fun x => ?_) _ ?_ _ _ i).trans ?_
  · refine (scatter_hist (N := 262144) scatter_S262144_S262144x1_S262144_n_0_0_1 rfl rfl rfl _ (fun j => ?_) _ _ (fun j => ?_)
      (fun j => j + 1) (fun j => ?_) (fun j => ?_) x).trans ?_
    · exact bc0 _ _ _
    · exact bc0 _ _ _
    · refine (bcCol _ _ j).trans ?_
      exact wrap_at (ix1 j) _ (res_main_v8 V : IVec S262144 32) _ (running_count_at V hmask j) (by have := j.isLt; omega)
    · have := j.isLt
      show j.val + 1 < 2 ^ 31
      omega
    · rw [count_succ _ _ x.isLt]
  · exact bc0 _ _ _
  · rw [sum_after_zero]

/-- The test "past the last kept patch" fails at every entry: all 262144 patches are kept. -/
theorem past_end_at (i : Fin 262144) : (res_main_v28 V : IVec S262144 1) (ix1 i) = 0#1 := by
  unfold res_main_v28
  have hs : ∀ h hu, Host.reduce IntOp.addi (extui 32 (res_main_v7 V : IVec S262144 1) natLt_1_32 : IVec S262144 32) (constantI S_ 32 0#32) h hu ix0
      = BitVec.ofNat 32 262144 := fun h hu => by
    refine (reduce_sum (N := 262144) _ (fun _ => 1) (kept_at V hmask) h hu).trans ?_
    rw [sum_ones]
  show IntOp.cmpi .sge (BitVec.ofNat 32 i.val) _ = 0#1
  have hb : ∀ (v : IVec S_ 32) h1 h2, v ix0 = BitVec.ofNat 32 262144 →
      broadcastInDim S262144 ![0] h2 (broadcastInDim S1 ![] h1 v) (ix1 i) = BitVec.ofNat 32 262144 := fun v h1 h2 hv =>
    (broadcastInDim_apply _ h2 _ _ (ix1 (0 : Fin 1)) fun a => by match a with | ⟨0, _⟩ => rfl).trans ((bc0 h1 v _).trans hv)
  rw [hb _ _ _ (hs _ _)]
  refine eq_zero_of_ne_one fun hh => ?_
  have hi := i.isLt
  have hle := (StableHlo.Predicate.sge_iff_toNat (a := BitVec.ofNat 32 i.val) (b := BitVec.ofNat 32 262144)
    (by rw [WordCmp.toNat_ofNat_of_lt (by omega)]; omega) (by decide)).1 hh
  rw [WordCmp.toNat_ofNat_of_lt (show i.val < 2 ^ 32 by omega), WordCmp.toNat_ofNat_of_lt (show 262144 < 2 ^ 32 by decide)] at hle
  omega

/-- The first index vector: entry `i` holds `i / 1024`, the number of the image. -/
theorem image_at (i : Fin 262144) : (res_main_v29 V : IVec S262144 32) (ix1 i) = BitVec.ofNat 32 (i.val / 1024) := by
  have hi := i.isLt
  have hx := position_at V hmask i
  have hp := past_end_at V hmask i
  unfold res_main_v29 res_main_call3_v4 res_main_call2_v2 res_main_call3_v2 res_main_call2_v0 res_main_call3_v0
  generalize (res_main_v18 V : IVec S262144 32) = x at hx ⊢
  generalize (res_main_v28 V : IVec S262144 1) = past at hp ⊢
  have hd := floor_divide_at (ix1 i) bcast_S_S262144 x (id (constantI S_ 32 1024#32)) (a := i.val) (b := 1024) hx rfl (by omega) (by decide) (by decide)
  have hr := remainder_at (ix1 i) bcast_S_S262144 _ (id (constantI S_ 32 256#32)) (b := 256) hd rfl (by omega) (by decide) (by decide) _ rfl
  refine (select_apply past _ _ (ix1 i)).trans ?_
  rw [hp, select_zero]
  refine hr.trans ?_
  rw [Nat.mod_eq_of_lt (by omega)]

/-- The second index vector: entry `i` holds `i % 1024`, the number of the patch in its image. -/
theorem patch_at (i : Fin 262144) : (res_main_v30 V : IVec S262144 32) (ix1 i) = BitVec.ofNat 32 (i.val % 1024) := by
  have hi := i.isLt
  have hx := position_at V hmask i
  have hp := past_end_at V hmask i
  unfold res_main_v30 res_main_call5_v4 res_main_call4_v2 res_main_call5_v2 res_main_call4_v0 res_main_call5_v0
  generalize (res_main_v18 V : IVec S262144 32) = x at hx ⊢
  generalize (res_main_v28 V : IVec S262144 1) = past at hp ⊢
  have hd := floor_divide_at (ix1 i) bcast_S_S262144 x (id (constantI S_ 32 1#32)) (a := i.val) (b := 1) hx rfl (by omega) (by decide) (by decide)
  have hr := remainder_at (ix1 i) bcast_S_S262144 _ (id (constantI S_ 32 1024#32)) (b := 1024) hd rfl (by omega) (by decide) (by decide) _ rfl
  refine (select_apply past _ _ (ix1 i)).trans ?_
  rw [hp, select_zero]
  refine hr.trans ?_
  rw [Nat.div_one]

end Unmasked

end Cert.Proof.Positions

end
-- ==== Proof.SetRows.lean ====
/- `table.at[i, j].set(rows)`: a scatter that sets rows of a rank-3 table, read at one entry. The index array has a pair of
   words per row of updates; when row `k`'s pair, read signed, is `(k / B, k % B)`, the table ends as the rows in order.
   Nothing here names a program. -/
module

public import Idealize.ShloMosaic.Lib.Routing.OpsPair
public import Idealize.ShloMosaic.Lib.Routing.OpsSet

@[expose] public section

namespace Cert.Proof.SetRows

open Idealize.ShloMosaic Idealize.ShloMosaic.ValueIdx Idealize.ShloMosaic.Routing

variable {A B C N : Nat} (d : ScatterDims (shape3 A B C) (shape2 N 2) (shape2 N C)) (huw : d.updateWindowDims = [1]) (hiw : d.insertedWindowDims = [0, 1])
  (hsd : d.scatterDimsToOperandDims = [0, 1]) (hivd : d.indexVectorDim = 1) (idx : IVec (shape2 N 2) 32)

include hsd hivd huw in
/-- On the table's first two axes the update starts at its row's pair of index words, read signed. -/
theorem start_at (k : Fin N) (e : Fin C) (q : Fin 2) (q' : Fin 3) (hq : q'.val = q.val) : d.start (ix2 k e) idx q' = (idx (ix2 k q)).toInt := by
  have hm : q' ∈ d.scatterDimsToOperandDims := by
    rw [hsd]
    have := q.isLt
    rcases Nat.eq_zero_or_pos q'.val with z | z
    · exact List.mem_cons.2 (.inl (Fin.ext z))
    · exact List.mem_cons.2 (.inr (List.mem_singleton.2 (Fin.ext (show q'.val = 1 by omega))))
  have hidx : List.idxOf q' d.scatterDimsToOperandDims = q.val := by
    rw [hsd]
    obtain rfl : q' = Fin.castSucc q := Fin.ext hq
    fin_cases q <;> rfl
  have hk : d.siKept = [0] := by
    show (List.finRange 2).filter (fun x => decide (x.val ≠ d.indexVectorDim)) = _
    rw [hivd]
    rfl
  have hu : d.uScatter = [0] := by
    show (shape2 N C).kept d.updateWindowDims = _
    rw [huw]
    rfl
  have head : ∀ (l : List (Fin 2)) (n : Nat) (h : n < l.length), l = [0] → l[n]'h = 0 := by
    intro l n h hl
    subst hl
    obtain rfl : n = 0 := by simpa using h
    rfl
  have hsi : d.siIdx (ix2 k e) ⟨d.scatterDimsToOperandDims.idxOf q', List.idxOf_lt_length_iff.2 hm⟩ = ix2 k q := by
    funext b
    apply Fin.ext
    match b with
    | ⟨0, _⟩ =>
      unfold ScatterDims.siIdx
      rw [dif_neg (by rw [hivd]; exact (by decide : (0 : ℕ) ≠ 1))]
      unfold ScatterDims.siCoord
      simp only [Fin.val_cast]
      rw [head _ _ _ hu]
    | ⟨1, _⟩ =>
      unfold ScatterDims.siIdx
      rw [dif_pos (by rw [hivd])]
      exact hidx
  unfold ScatterDims.start
  rw [dif_pos hm, hsi]

include hsd in
/-- On the table's last axis every update starts at 0. -/
theorem start_last (k : Fin N) (e : Fin C) : d.start (ix2 k e) idx 2 = 0 := by
  unfold ScatterDims.start
  rw [dif_neg]
  rw [hsd]
  exact (by decide : ¬ (2 : Fin 3) ∈ ([0, 1] : List (Fin 3)))

include hiw in
/-- An update's window has no extent on the table's first two axes. -/
theorem window_first (k : Fin N) (e : Fin C) (q : Fin 3) (hq : q ∈ ([0, 1] : List (Fin 3))) : d.window (ix2 k e) q = 0 := by
  unfold ScatterDims.window
  rw [dif_neg fun h => (of_decide_eq_true (List.mem_filter.1 h).2) (by rw [hiw]; exact hq)]

include hiw huw in
/-- On the table's last axis an update's window coordinate is its own column. -/
theorem window_last (k : Fin N) (e : Fin C) : d.window (ix2 k e) 2 = e.val := by
  have hk : d.sKept = [2] := by
    show (shape3 A B C).kept d.insertedWindowDims = _
    rw [hiw]
    rfl
  have one : ∀ (l : List (Fin 2)) (n : Nat) (h : n < l.length), l = [1] → l[n]'h = 1 := by
    intro l n h hl
    subst hl
    obtain rfl : n = 0 := by simpa using h
    rfl
  unfold ScatterDims.window
  rw [dif_pos (by rw [hk]; exact List.mem_singleton.2 rfl), one _ _ _ huw]

include huw hiw hsd hivd in
/-- Update `(k, e)` lands at entry `(a, b, c)` exactly when its row's index words are `a` and `b` and its column is `c`. -/
theorem lands_iff (k : Fin N) (e : Fin C) (a : Fin A) (b : Fin B) (c : Fin C) :
    d.resultIdx? (ix2 k e) idx = some (ix3 a b c)
      ↔ (idx (ix2 k (0 : Fin 2))).toInt = a.val ∧ (idx (ix2 k (1 : Fin 2))).toInt = b.val ∧ e.val = c.val := by
  rw [resultIdx?_eq_some]
  have h0 := start_at d huw hsd hivd idx k e 0 0 rfl
  have h1 := start_at d huw hsd hivd idx k e 1 1 rfl
  have h2 := start_last d hsd idx k e
  have w0 := window_first d hiw k e 0 (by decide)
  have w1 := window_first d hiw k e 1 (by decide)
  have w2 := window_last d huw hiw k e
  constructor
  · intro h
    have e0 := h 0
    have e1 := h 1
    have e2 := h 2
    rw [h0, w0] at e0
    rw [h1, w1] at e1
    rw [h2, w2] at e2
    change _ = (a.val : Int) at e0
    change _ = (b.val : Int) at e1
    change _ = (c.val : Int) at e2
    omega
  · rintro ⟨q0, q1, q2⟩ x
    match x with
    | ⟨0, _⟩ =>
      show d.start (ix2 k e) idx 0 + (d.window (ix2 k e) 0 : Int) = (a.val : Int)
      rw [h0, w0]; omega
    | ⟨1, _⟩ =>
      show d.start (ix2 k e) idx 1 + (d.window (ix2 k e) 1 : Int) = (b.val : Int)
      rw [h1, w1]; omega
    | ⟨2, _⟩ =>
      show d.start (ix2 k e) idx 2 + (d.window (ix2 k e) 2 : Int) = (c.val : Int)
      rw [h2, w2]; omega

include huw hiw hsd hivd in
/-- When row `k`'s index words hold `k / B` and `k % B`, entry `(a, b, c)` of the table set by the scatter is entry `c` of
    update row `a * B + b`: the whole table is the rows of updates in order, whatever it held before. -/
theorem set_rows_at {α : Type} (table : (shape3 A B C).Idx → α) (rows : (shape2 N C).Idx → α)
    (hi : ∀ k : Fin N, idx (ix2 k (0 : Fin 2)) = BitVec.ofNat 32 (k.val / B)) (hj : ∀ k : Fin N, idx (ix2 k (1 : Fin 2)) = BitVec.ofNat 32 (k.val % B))
    (hN : N < 2 ^ 31) (hB : B < 2 ^ 31) (a : Fin A) (b : Fin B) (c : Fin C) (k : Fin N) (hk : k.val = a.val * B + b.val) :
    Host.scatter d (fun _ y => y) table idx rows (ix3 a b c) = rows (ix2 k c) := by
  have hB0 : 0 < B := lt_of_le_of_lt (Nat.zero_le _) b.isLt
  have ti : ∀ k : Fin N, (idx (ix2 k (0 : Fin 2))).toInt = ((k.val / B : Nat) : Int) := fun k => by
    rw [hi, StableHlo.Predicate.toInt_ofNat_small _ (lt_of_le_of_lt (Nat.div_le_self _ _) (lt_trans k.isLt hN))]
  have tj : ∀ k : Fin N, (idx (ix2 k (1 : Fin 2))).toInt = ((k.val % B : Nat) : Int) := fun k => by
    rw [hj, StableHlo.Predicate.toInt_ofNat_small _ (lt_trans (Nat.mod_lt _ hB0) hB)]
  have hdiv : k.val / B = a.val := by
    rw [hk, Nat.add_comm, Nat.add_mul_div_right _ _ hB0, Nat.div_eq_of_lt b.isLt, Nat.zero_add]
  have hmod : k.val % B = b.val := by
    rw [hk, Nat.add_comm, Nat.add_mul_mod_self_right, Nat.mod_eq_of_lt b.isLt]
  refine scatter_set_hit d table idx rows (ix3 a b c) _ (fun u hu => ?_) (ix2 k c) ?_
  · rw [eq_ix2 u] at hu
    obtain ⟨q0, q1, q2⟩ := (lands_iff d huw hiw hsd hivd idx (u 0) (u 1) a b c).1 hu
    have r0 : (u 0).val / B = a.val := Int.ofNat_inj.1 ((ti (u 0)).symm.trans q0)
    have r1 : (u 0).val % B = b.val := Int.ofNat_inj.1 ((tj (u 0)).symm.trans q1)
    have hu0 : u 0 = k := Fin.ext (by rw [← Nat.div_add_mod' (u 0).val B, r0, r1, hk])
    have hu1 : u 1 = c := Fin.ext q2
    rw [eq_ix2 u, hu0, hu1]
    rfl
  · refine (lands_iff d huw hiw hsd hivd idx k c a b c).2 ⟨?_, ?_, rfl⟩
    · rw [ti, hdiv]
    · rw [tj, hmod]

end Cert.Proof.SetRows

end
-- ==== Proof.Dense.lean ====
/- The reference's dense layer `x @ W + b`, and the sum of the two broadcast operands around it, read at an index. -/
module

public import proofs.«01_k».proof.Proof.Gen.ReferenceIdeal
public import Idealize.ShloMosaic.Lib.Pointwise

@[expose] public section

noncomputable section

namespace Cert.Proof.Dense

open Idealize.ShloMosaic Cert.ReferenceIdeal Cert.ReferenceIdeal.Gen

/-- Entry `(b, p, e)` of `x @ W + b`: the sum over `k` of `x (b, p, k) * W (k, e)`, plus the bias at `e`. -/
theorem dense_at (x : FVec Ideal S256x1024x128 .f32) (W : FVec Ideal S128x128 .f32) (bias : FVec Ideal S128 .f32) (b : Fin 256) (p : Fin 1024) (e : Fin 128) :
    addf (Host.dotGeneral dot_S256x1024x128_S128x128_S256x1024x128_2_0_01_1_n_n none x W)
      (broadcastInDim S256x1024x128 ![0, 1, 2] bcast_S1x1x128_S256x1024x128_0_1_2 (broadcastInDim S1x1x128 ![2] bcast_S128_S1x1x128_2 bias)) (ix3 b p e)
      = (∑ k : Fin 128, x (ix3 b p k) * W (ix2 k e)) + bias (ix1 e) := by
  pointwise

/-- Entry `(b, p, e)` of the broadcast position embedding: the embedding at `(0, p, e)`. -/
theorem embedding_at (pos : FVec Ideal S1x1024x128 .f32) (b : Fin 256) (p : Fin 1024) (e : Fin 128) :
    broadcastInDim S256x1024x128 ![0, 1, 2] bcast_S1x1024x128_S256x1024x128_0_1_2 pos (ix3 b p e) = pos (ix3 0 p e) := by
  pointwise

end Cert.Proof.Dense

end
-- ==== Proof.Reference.lean ====
/- What the reference computes when no patch is masked: entry `(b, p, e)` of its result is the dense layer's value there plus
   the position embedding. -/
module

public import proofs.«01_k».proof.Proof.Positions
public import proofs.«01_k».proof.Proof.SetRows
public import proofs.«01_k».proof.Proof.Dense
public import Idealize.ShloMosaic.Lib.Pointwise.IndexBridge

@[expose] public section

noncomputable section

namespace Cert.Proof.Reference

open Idealize.ShloMosaic Idealize.ShloMosaic.Routing Idealize.SL.Sem Cert.ReferenceIdeal Cert.ReferenceIdeal.Gen Cert.ReferenceIdeal.Value
  Cert.Proof.Words Cert.Proof.Positions Cert.Proof.SetRows Cert.Proof.Dense
open Idealize.ShloMosaic.ValueIdx (eq_ix3)

variable (V : Valuation τ sig (Elt Ideal))

/-- An index vector after jnp's normalisation of negative indices to an axis of `n` entries. -/
abbrev wrapped (v : IVec S262144 32) (n : BitVec 32) : IVec S262144 32 :=
  select (cmpi .slt v (broadcastInDim S262144 ![] bcast_S_S262144 (constantI S_ 32 0#32)))
    (addi v (broadcastInDim S262144 ![] bcast_S_S262144 (constantI S_ 32 n))) v

/-- The scatter's index array: the two index vectors side by side, one pair per kept patch. -/
abbrev pairs : IVec S262144x2 32 :=
  concatenate S262144x2 1 [⟨S262144x1, broadcastInDim S262144x1 ![0] bcast_S262144_S262144x1_0 (wrapped (res_main_v29 V) 256#32)⟩,
    ⟨S262144x1, broadcastInDim S262144x1 ![0] bcast_S262144_S262144x1_0 (wrapped (res_main_v30 V) 1024#32)⟩]
    concatenates_S262144x1_S262144x1_S262144x2_d1

/-- The dense layer over the whole input: `x @ W + b`. -/
abbrev dense : FVec Ideal S256x1024x128 .f32 :=
  addf (Host.dotGeneral (φ₁ := .f32) (φ₂ := .f32) dot_S256x1024x128_S128x128_S256x1024x128_2_0_01_1_n_n none (V (Proc.devRef .tc main_arg0)) (V (Proc.devRef .tc main_arg2)))
    (broadcastInDim S256x1024x128 ![0, 1, 2] bcast_S1x1x128_S256x1024x128_0_1_2 (broadcastInDim S1x1x128 ![2] bcast_S128_S1x1x128_2 (V (Proc.devRef .tc main_arg3))))

/-- The reference's result as the generated run states it. -/
abbrev result : FVec Ideal S256x1024x128 .f32 :=
  addf (Host.scatter scatter_S256x1024x128_S262144x2_S262144x128_1_01_01_1 (fun _ b => b)
      (broadcastInDim S256x1024x128 ![0, 1, 2] bcast_S1x1x128_S256x1024x128_0_1_2 (V (Proc.devRef .tc main_arg4))) (pairs V)
      (shapeCast _ (dense V) shapeCasts_S256x1024x128_S262144x128))
    (broadcastInDim S256x1024x128 ![0, 1, 2] bcast_S1x1024x128_S256x1024x128_0_1_2 (V (Proc.devRef .tc main_arg5)))

/-- Column 0 of two columns placed side by side is the first. -/
theorem pair_left (x y : IVec S262144x1 32) (h : Shape.Concatenates [S262144x1, S262144x1] S262144x2 1) (i : Fin 262144) :
    concatenate S262144x2 1 [⟨S262144x1, x⟩, ⟨S262144x1, y⟩] h (ValueIdx.ix2 i 0) = x (ValueIdx.ix2 i 0) := by
  refine concatenate_pair_apply_left 1 x y h _ h.rank_fst _ fun b => ?_
  match b with
  | ⟨0, _⟩ => rfl
  | ⟨1, _⟩ => rfl

/-- Column 1 of two columns placed side by side is the second. -/
theorem pair_right (x y : IVec S262144x1 32) (h : Shape.Concatenates [S262144x1, S262144x1] S262144x2 1) (i : Fin 262144) :
    concatenate S262144x2 1 [⟨S262144x1, x⟩, ⟨S262144x1, y⟩] h (ValueIdx.ix2 i 1) = y (ValueIdx.ix2 i 0) := by
  refine concatenate_pair_apply_right 1 x y h _ h.rank_fst h.rank_snd _ (fun b hb => ?_) rfl
  match b, hb with
  | ⟨0, _⟩, _ => rfl
  | ⟨1, _⟩, hb => exact absurd rfl hb

/-- Reshaping `[256, 1024, 128]` to `[262144, 128]` reads, at row `b * 1024 + p`, the row `(b, p)`. -/
theorem flat_at (y : FVec Ideal S256x1024x128 .f32) (h : S256x1024x128.ShapeCasts S262144x128) (b : Fin 256) (p : Fin 1024) (e : Fin 128) (k : Fin 262144)
    (hk : k.val = b.val * 1024 + p.val) : shapeCast S262144x128 y h (ValueIdx.ix2 k e) = y (ValueIdx.ix3 b p e) := by
  refine shapeCast_apply y h _ _ ?_
  rw [Shape.rowMajor_val_three, Shape.rowMajor_val_two]
  show (b.val * 1024 + p.val) * 128 + e.val = k.val * 128 + e.val
  rw [hk]

/-- With no patch masked, entry `(b, p, e)` of the reference's result is the sum over `k` of `x (b, p, k) * W (k, e)`, plus the
    bias at `e`, plus the position embedding at `(0, p, e)`. -/
theorem result_at (hmask : ∀ (b : Fin 256) (p : Fin 1024), maskOf V (ValueIdx.ix2 b p) = 0#1)
    (x : FVec Ideal S256x1024x128 .f32) (W : FVec Ideal S128x128 .f32) (bias : FVec Ideal S128 .f32) (pos : FVec Ideal S1x1024x128 .f32)
    (hx : V (Proc.devRef .tc main_arg0) = x) (hW : V (Proc.devRef .tc main_arg2) = W) (hb : V (Proc.devRef .tc main_arg3) = bias)
    (hp : V (Proc.devRef .tc main_arg5) = pos) (b : Fin 256) (p : Fin 1024) (e : Fin 128) :
    result V (ix3 b p e) = ((∑ k : Fin 128, x (ix3 b p k) * W (ix2 k e)) + bias (ix1 e)) + pos (ix3 0 p e) := by
  have hlt : b.val * 1024 + p.val < 262144 := by have := b.isLt; have := p.isLt; omega
  have hi : ∀ k : Fin 262144, pairs V (ValueIdx.ix2 k (0 : Fin 2)) = BitVec.ofNat 32 (k.val / 1024) := fun k => by
    refine (pair_left _ _ _ k).trans ((bcCol _ _ k).trans ?_)
    exact wrap_at (ValueIdx.ix1 k) bcast_S_S262144 _ _ (image_at V hmask k) (by have := k.isLt; omega)
  have hj : ∀ k : Fin 262144, pairs V (ValueIdx.ix2 k (1 : Fin 2)) = BitVec.ofNat 32 (k.val % 1024) := fun k => by
    refine (pair_right _ _ _ k).trans ((bcCol _ _ k).trans ?_)
    exact wrap_at (ValueIdx.ix1 k) bcast_S_S262144 _ _ (patch_at V hmask k) (by have := k.isLt; omega)
  refine (addf_apply _ _ _).trans ?_
  rw [hp, embedding_at]
  refine congrArg (fun v => v + pos (ix3 0 p e)) ?_
  rw [ix3_eq_valueIdx b p e]
  have hset := set_rows_at (A := 256) (B := 1024) (C := 128) (N := 262144) scatter_S256x1024x128_S262144x2_S262144x128_1_01_01_1 rfl rfl rfl rfl (pairs V)
    (broadcastInDim S256x1024x128 ![0, 1, 2] bcast_S1x1x128_S256x1024x128_0_1_2 (V (Proc.devRef .tc main_arg4)))
    (shapeCast _ (dense V) shapeCasts_S256x1024x128_S262144x128) hi hj (by omega) (by omega) b p e ⟨b.val * 1024 + p.val, hlt⟩ rfl
  refine hset.trans ?_
  rw [flat_at _ _ b p e _ rfl, ← ix3_eq_valueIdx]
  rw [dense, hx, hW, hb]
  exact dense_at x W bias b p e

end Cert.Proof.Reference

end
-- ==== Proof.Mask.lean ====
/- The precondition read as a fact about the mask: when `no_patch_masked` answers true, every entry of the mask is 0. -/
module

public import proofs.«01_k».proof.Pre_no_patch_masked
public import Idealize.ShloMosaic.Lib.ReduceAll
public import Idealize.ShloMosaic.Lib.ValueIdxCore

@[expose] public section

namespace Cert.Proof.Mask

open Idealize.ShloMosaic Idealize.ShloMosaic.ValueIdx Cert.Pre_no_patch_masked

/-- The shape facts that the precondition's one reduction states. -/
theorem facts : Cert.Pre_no_patch_masked.Facts where
  reducesTo_S256x1024_S_d0_1 := by decide
  h_S_ := by decide

/-- If the precondition is true of the arguments, no patch is masked: entry `(b, p)` of the mask is 0. -/
theorem unmasked [Facts] {F : FTy → Type} [FloatOps F] (x : FVec F S256x1024x128 .f32) (mask : IVec S256x1024 1) (W : FVec F S128x128 .f32)
    (bias : FVec F S128 .f32) (token : FVec F S1x1x128 .f32) (pos : FVec F S1x1024x128 .f32) (h : fn x mask W bias token pos = fun _ => 1#1)
    (b : Fin 256) (p : Fin 1024) : mask (ix2 b p) = 0#1 := by
  have h0 := congrFun h ix0
  dsimp only [fn] at h0
  have hall := Host.reduce_andi_eq_one _ _ _ _ ix0 h0 (ix2 b p) (eq_ix0 _)
  change ~~~ mask (ix2 b p) = 1#1 at hall
  generalize mask (ix2 b p) = w at hall
  revert hall
  revert w
  decide

end Cert.Proof.Mask
-- ==== Proof.Equation.lean ====
/- The equation of the claim: with no patch masked, the kernel's result and the reference's are the same array. -/
module

public import proofs.«01_k».proof.Proof.KernelValue
public import proofs.«01_k».proof.Proof.Reference
public import proofs.«01_k».proof.Proof.Mask

@[expose] public section

noncomputable section

namespace Cert.Proof.Equation

open Idealize.ShloMosaic Idealize.ShloMosaic.TcCoe Idealize.SL.Sem

/-- Adding the bias to the position embedding first, as the kernel does, or to the dense layer's sum first, as the reference
    does, gives the same extended real. -/
theorem sum_order (s bias pos : EReal) : (s + bias) + pos = s + (pos + bias) := by
  rw [add_assoc, add_comm bias pos]

/-- From memories that agree on the arguments and with no patch masked, the reference's result is the kernel's. -/
theorem results_equal (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hmask : ∀ (b : Fin 256) (p : Fin 1024),
      (m ((c.tc : Thread KernelIdeal.nD KernelIdeal.τ).loc KernelIdeal.main_arg1) : IVec KernelIdeal.S256x1024 1) (ValueIdx.ix2 b p) = 0#1)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h5 : m' ((c.tc : Thread ReferenceIdeal.nD ReferenceIdeal.τ).loc ReferenceIdeal.main_arg5) = m ((c.tc : Thread KernelIdeal.nD KernelIdeal.τ).loc KernelIdeal.main_arg5)) :
    (Reference.result (StableHlo.launchContents m' c) : FVec Ideal ReferenceIdeal.S256x1024x128 .f32)
      = Pipeline.afterTail₀ KernelIdeal.cfgs (KernelIdeal.Gen.dats m) 0 (KernelIdeal.Gen.V0 m) [KernelIdeal.Gen.hostOps1] c KernelIdeal.main_v6 := by
  funext i
  have hi : i = ix3 (i 0) (i 1) (i 2) := by
    funext d
    fin_cases d <;> rfl
  rw [hi]
  have hm : ∀ (b : Fin 256) (p : Fin 1024), Positions.maskOf (StableHlo.launchContents m' c) (ValueIdx.ix2 b p) = 0#1 := fun b p =>
    (congrFun h1 (ValueIdx.ix2 b p)).trans (hmask b p)
  refine (Reference.result_at (StableHlo.launchContents m' c) hm _ _ _ _ h0 h2 h3 h5 (i 0) (i 1) (i 2)).trans ?_
  refine (sum_order _ _ _).trans ?_
  exact (KernelValue.result_at m c _ _ _ _ rfl rfl rfl rfl (i 0) (i 1) (i 2)).symm

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs on words, leaves its arguments as they were and every semaphore counter at zero. -/
theorem kernel_frame : Cert.quiescent_Kernel (hKernel := Cert.Kernel.Gen.facts) :=
  fun m g _ => Cert.Kernel.Gen.frame m g

/-- The same of the kernel at exact arithmetic, -/
theorem kernel_ideal_frame : Cert.quiescent_KernelIdeal (hKernelIdeal := Cert.KernelIdeal.Gen.facts) :=
  fun m g _ => Cert.KernelIdeal.Gen.frame m g

/-- also where the precondition is assumed. -/
theorem kernel_ideal_frame_unmasked :
    Cert.quiescent_KernelIdeal_pre_no_patch_masked (hKernelIdeal := Cert.KernelIdeal.Gen.facts) (hPre_no_patch_masked := Cert.Proof.Mask.facts) :=
  fun m g _ => Cert.KernelIdeal.Gen.frame m g

/-- The same of the reference at exact arithmetic: it declares no semaphore, so the counters are zero because there are none. -/
theorem reference_frame : Cert.quiescent_ReferenceIdeal (hReferenceIdeal := Cert.ReferenceIdeal.Gen.facts) :=
  fun m g _ => θ_run_mono (Cert.ReferenceIdeal.Value.run (F := Ideal) m g) fun r h =>
    ⟨fun c => (h c).2, sem_eq_zero_of_no_sems (by decide) r.2⟩

/-- The reference's frame where the precondition is assumed. -/
theorem reference_frame_unmasked :
    Cert.quiescent_ReferenceIdeal_pre_no_patch_masked (hReferenceIdeal := Cert.ReferenceIdeal.Gen.facts) (hPre_no_patch_masked := Cert.Proof.Mask.facts) :=
  fun m g _ => reference_frame m g trivial

/-- With no patch masked, the kernel and the reference end with equal results, from memories that agree on the arguments. -/
theorem equal_results :
    Cert.algebraic_KernelIdeal_ReferenceIdeal_pre_no_patch_masked (hKernelIdeal := Cert.KernelIdeal.Gen.facts)
      (hReferenceIdeal := Cert.ReferenceIdeal.Gen.facts) (hPre_no_patch_masked := Cert.Proof.Mask.facts) :=
  fun m g m' g' hpre hagree =>
    ⟨fun c => Pipeline.afterTail₀ Cert.KernelIdeal.cfgs (Cert.KernelIdeal.Gen.dats m) 0 (Cert.KernelIdeal.Gen.V0 m) [Cert.KernelIdeal.Gen.hostOps1] c Cert.KernelIdeal.main_v6,
      KernelValue.run m g,
      θ_run_mono (Cert.ReferenceIdeal.Value.run (F := Ideal) m' g') fun r h c =>
        ⟨(h c).1.trans (Equation.results_equal m m' c
            (fun b p => letI := Cert.Proof.Mask.facts; Mask.unmasked _ _ _ _ _ _ (hpre c) b p)
            (hagree c).1 (hagree c).2.1 (hagree c).2.2.1 (hagree c).2.2.2.1 (hagree c).2.2.2.2.2), (h c).2⟩⟩

/-- Everything the certificate claims. -/
theorem claim : Cert.Claim :=
  ⟨Cert.Kernel.Gen.facts, Cert.KernelIdeal.Gen.facts, Cert.ReferenceIdeal.Gen.facts, Cert.Proof.Mask.facts,
    kernel_frame, kernel_ideal_frame, kernel_ideal_frame_unmasked, reference_frame, reference_frame_unmasked, trivial, equal_results⟩

end Cert.Proof

end
